-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S4096x4096 : Shape := ⟨2, ![4096, 4096]⟩
abbrev S256x4096 : Shape := ⟨2, ![256, 4096]⟩
abbrev S256x64 : Shape := ⟨2, ![256, 64]⟩

abbrev nBuf : Space → Nat
  | .hbm => 3
  | .vmem => 5
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .local _ .vmem, ⟨0, _⟩ => ⟨S4096x64, .f32⟩
  | .local _ .vmem, ⟨1, _⟩ => ⟨S256x4096, .f32⟩
  | .local _ .vmem, ⟨2, _⟩ => ⟨S256x4096, .f32⟩
  | .local _ .vmem, ⟨3, _⟩ => ⟨S256x64, .f32⟩
  | .local _ .vmem, ⟨4, _⟩ => ⟨S256x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x64 : Shape := ⟨2, ![4096, 64]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .hbm, ⟨3, _⟩ => ⟨S_, .f32⟩
  | .hbm, ⟨4, _⟩ => ⟨S4096x64, .f32⟩
  | .hbm, ⟨5, _⟩ => ⟨S4096x64, .i1⟩
  | .hbm, ⟨6, _⟩ => ⟨S4096x64, .f32⟩
  | .hbm, ⟨7, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Elu.lean ====
/-
  Hand-written, untrusted. THE FUNCTION both programs compute over the extended reals: `elu(adj · x)`, index by index,
  stated without reference to either program's operations.
-/
module

public import Idealize.ShloMosaic.Lib.Pointwise

@[expose] public section

noncomputable section

namespace Cert.Proof.Elu

open Idealize.ShloMosaic

/-- The exponential linear unit with α = 1 on the extended reals: `y` above zero, `eʸ − 1` elsewhere. -/
def elu (y : EReal) : EReal := if 0 < y then y else Ideal.exp y - 1

/-- Row `r`, column `c` of the product of an R × K matrix with a K × C matrix. -/
def dot {R K C : Nat} (a : (⟨2, ![R, K]⟩ : Shape).Idx → EReal) (x : (⟨2, ![K, C]⟩ : Shape).Idx → EReal)
    (r : Fin R) (c : Fin C) : EReal :=
  ∑ k : Fin K, a (ix2 r k) * x (ix2 k c)

/-- The whole result: `elu` of every element of the product. -/
def eluDot {R K C : Nat} (a : (⟨2, ![R, K]⟩ : Shape).Idx → EReal) (x : (⟨2, ![K, C]⟩ : Shape).Idx → EReal) :
    (⟨2, ![R, C]⟩ : Shape).Idx → EReal :=
  fun i => elu (dot a x (i 0) (i 1))

end Cert.Proof.Elu

end
-- ==== Proof.Block.lean ====
/-
  Hand-written, untrusted. WHAT ONE GRID POINT COMPUTES: the body's one payload, of a block of 256 rows of `adj` and of the
  whole of `x`, is `elu` of the product of the two.
-/
module

public import proofs.«01_k».proof.Proof.Elu
public import proofs.«01_k».proof.Proof.Gen.KernelIdeal.Skeleton

@[expose] public section

noncomputable section

namespace Cert.Proof.Block

open Idealize.ShloMosaic Cert.KernelIdeal Cert.KernelIdeal.Gen Cert.Proof.Elu

/-- The payload of a row block `a` and of `x`, at an index: `elu` of that element of the product `a · x`. -/
theorem payload_apply (a : FVec Ideal S256x4096 .f32) (x : FVec Ideal S4096x64 .f32) (j : S256x64.Idx) :
    k0_pay1 (F := Ideal) a x j = eluDot a x j := by
  pointwise [k0_pay1]
  rfl

end Cert.Proof.Block

end
-- ==== Proof.Array.lean ====
/-
  Hand-written, untrusted. WHAT THE RESULT ARRAY HOLDS after the pipelined kernel's run at the ideal instance: each of the
  sixteen grid points writes back its 256 rows of `elu(adj · x)`, and the sixteen row blocks tile the array, so the array
  ends holding the whole of it.
-/
module

public import proofs.«01_k».proof.Proof.Block
public import proofs.«01_k».proof.Proof.Gen.KernelIdeal.Value

@[expose] public section

noncomputable section

namespace Cert.Proof.Array

open Idealize.ShloMosaic Idealize.ShloMosaic.TcCoe Idealize.SL.Sem
open Idealize.ShloMosaic.Pipeline (Dat)
open Cert.KernelIdeal Cert.KernelIdeal.Gen Cert.Proof.Elu

variable (m : (ℓ : Loc nD τ sig) → Buf (Elt Ideal) ℓ) (ρ : Dev nD → PrngReg)

/-- `elu(adj · x)` of device `c`'s two arguments: what the result array is shown to hold. -/
abbrev result (c : Dev nD) : Buf (Elt Ideal) ((c : Thread nD τ).loc main_v0) :=
  eluDot (R := 4096) (K := 4096) (C := 64) (m ((c : Thread nD τ).loc main_arg1)) (m ((c : Thread nD τ).loc main_arg0))

/-- The loads and the store of the body are through whole staging buffers. -/
theorem whole_offset : (![0, 0] : Fin 2 → Nat) = fun _ => 0 := funext fun a => by fin_cases a <;> rfl

/-- Where the windows stand at point `t`: `x` is whole, the blocks of `adj` and of the result are rows
    `256 t … 256 t + 255`. -/
theorem window_offsets : ∀ t : Fin grid0.N,
    win0_0.index t 0 = 0 ∧ win0_0.index t 1 = 0 ∧ win0_1.index t 0 = t.val ∧ win0_1.index t 1 = 0
      ∧ win0_2.index t 0 = t.val ∧ win0_2.index t 1 = 0 := by
  decide +kernel

/-- Block `t` of `adj`, element (r, k), is row `256 t + r`, column `k` of the array. -/
theorem adj_block (c : Dev nD) (t : Fin cfg0.N) (r : Fin 256) (k : Fin 4096) (h : t.val * 256 + r.val < 4096) :
    iblk m c 1 t (ix2 r k) = m ((c : Thread nD τ).loc main_arg1) (ix2 ⟨t.val * 256 + r.val, h⟩ k) := by
  obtain ⟨-, -, e0, e1, -, -⟩ := window_offsets t
  refine congrArg (m ((c : Thread nD τ).loc main_arg1)) (funext fun a => Fin.ext ?_)
  match a with
  | ⟨0, _⟩ => show win0_1.index t 0 * 256 + 1 * r.val = t.val * 256 + r.val; rw [e0, Nat.one_mul]
  | ⟨1, _⟩ => show win0_1.index t 1 * 4096 + 1 * k.val = k.val; rw [e1]; omega

/-- Every block of `x` is the whole of it. -/
theorem x_block (c : Dev nD) (t : Fin cfg0.N) (k : Fin 4096) (l : Fin 64) :
    iblk m c 0 t (ix2 k l) = m ((c : Thread nD τ).loc main_arg0) (ix2 k l) := by
  obtain ⟨e0, e1, -, -, -, -⟩ := window_offsets t
  refine congrArg (m ((c : Thread nD τ).loc main_arg0)) (funext fun a => Fin.ext ?_)
  match a with
  | ⟨0, _⟩ => show win0_0.index t 0 * 4096 + 1 * k.val = k.val; rw [e0]; omega
  | ⟨1, _⟩ => show win0_0.index t 1 * 64 + 1 * l.val = l.val; rw [e1]; omega

/-- What point `t` writes back is block `t` of `elu(adj · x)`. -/
theorem flushed_eq (c : Dev nD) (t : Fin cfg0.N) :
    (dats m 0 c).flushed 2 t = (win0_2.blk t).view.read (Elt Ideal) (result m c) := by
  rw [Value.flushed2]
  unfold out0_2
  rw [View.canon_unit_zero whole_offset, View.ld_unit_zero whole_offset, View.ld_unit_zero whole_offset]
  funext j
  have hj : (j 0 : Nat) < 256 := (j 0).isLt
  have ht : t.val < 16 := t.isLt
  have hr : t.val * 256 + (j 0 : Nat) < 4096 := by omega
  obtain ⟨-, -, -, -, e0, e1⟩ := window_offsets t
  have hw : (win0_2.blk t).view.read (Elt Ideal) (result m c) j
      = result m c (ix2 (n0 := 4096) (n1 := 64) ⟨t.val * 256 + (j 0 : Nat), hr⟩ (j 1)) := by
    refine congrArg (result m c) (funext fun a => Fin.ext ?_)
    match a with
    | ⟨0, _⟩ => show win0_2.index t 0 * 256 + 1 * (j 0 : Nat) = t.val * 256 + (j 0 : Nat); rw [e0, Nat.one_mul]
    | ⟨1, _⟩ => show win0_2.index t 1 * 64 + 1 * (j 1 : Nat) = (j 1 : Nat); rw [e1]; omega
  rw [hw]
  show k0_pay1 (F := Ideal) (iblk m c 1 t) (iblk m c 0 t) j = _
  rw [Block.payload_apply]
  refine congrArg elu (Finset.sum_congr rfl fun k _ => ?_)
  exact congrArg₂ (· * ·) (adj_block m c t (j 0) k hr) (x_block m c t k (j 1))

/-- An index of the result array is in point `t`'s block exactly when its row is one of the block's 256. -/
theorem mem_block (t : Fin cfg0.N) (i : S4096x64.Idx) :
    i ∈ ((cfg0.win 2).blk t).view.set ↔ t.val * 256 ≤ (i 0 : Nat) ∧ (i 0 : Nat) < t.val * 256 + 256 := by
  show i ∈ ((View.whole main_v0).slice (win0_2.rect t)).set ↔ _
  rw [View.set_slice_whole, Rect.mem_set_unit]
  obtain ⟨-, -, -, -, e0, e1⟩ := window_offsets t
  have h1 : (i 1 : Nat) < 64 := (i 1).isLt
  refine ⟨fun h => ?_, fun h a => ?_⟩
  · have h0 : win0_2.index t 0 * 256 ≤ (i 0 : Nat) ∧ (i 0 : Nat) < win0_2.index t 0 * 256 + 256 := h 0
    rwa [e0] at h0
  · match a with
    | ⟨0, _⟩ => show win0_2.index t 0 * 256 ≤ (i 0 : Nat) ∧ (i 0 : Nat) < win0_2.index t 0 * 256 + 256; rwa [e0]
    | ⟨1, _⟩ => show win0_2.index t 1 * 64 ≤ (i 1 : Nat) ∧ (i 1 : Nat) < win0_2.index t 1 * 64 + 64; rw [e1]; omega

/-- The sixteen row blocks tile the result array: row `r` is in block `r / 256`. -/
theorem cover (i : S4096x64.Idx) :
    ∃ t : Fin cfg0.N, (cfg0.win 2).flush t = true ∧ i ∈ ((cfg0.win 2).blk t).view.set := by
  have h0 : (i 0 : Nat) < 4096 := (i 0).isLt
  have ht : (i 0 : Nat) / 256 < cfg0.N := by show _ < 16; omega
  refine ⟨⟨(i 0 : Nat) / 256, ht⟩, flush0_2 _, ?_⟩
  rw [mem_block]
  dsimp only
  omega

/-- So the result array ends holding `elu(adj · x)`. -/
theorem final (c : Dev nD) : (dats m 0 c).arrAt 2 cfg0.N = result m c :=
  (dats m 0 c).arrAt_eq_of_cover 2 (result m c) (fun t _ => flushed_eq m c t) cover

/-- The kernel's run at the ideal instance: it terminates with the result array at `elu(adj · x)` and the arguments
    unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Proof.Array

end
-- ==== Proof.RefValue.lean ====
/-
  Hand-written, untrusted. WHAT THE REFERENCE COMPUTES: its composed term, the selection between the whole product and
  `expm1` of it, is `elu` of the product of its two arguments, index by index.
-/
module

public import proofs.«01_k».proof.Proof.Elu
public import proofs.«01_k».proof.Proof.Gen.ReferenceIdeal.Run

@[expose] public section

noncomputable section

namespace Cert.Proof.RefValue

open Idealize.ShloMosaic Idealize.ShloMosaic.TcCoe Idealize.SL.Sem
open Cert.ReferenceIdeal Cert.ReferenceIdeal.Gen Cert.Proof.Elu

/-- The reference's composed term of its arguments is `elu` of their product. -/
theorem term_eq (a : FVec Ideal S4096x4096 .f32) (x : FVec Ideal S4096x64 .f32) :
    select
        (cmpf .ogt (Host.dotGeneral dot_S4096x4096_S4096x64_S4096x64_1_0_0_1_n_n none a x)
          (broadcastInDim S4096x64 ![] Facts₀.bcast_S_S4096x64 (constant (F := Ideal) S_ .f32 0x00000000#32)))
        (Host.dotGeneral dot_S4096x4096_S4096x64_S4096x64_1_0_0_1_n_n none a x)
        (Host.expm1 (Host.dotGeneral dot_S4096x4096_S4096x64_S4096x64_1_0_0_1_n_n none a x))
      = eluDot a x := by
  funext i
  pointwise
  rfl

/-- The reference's run at the ideal instance: it terminates with its result array at `elu` of the product of its arguments,
    which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = eluDot (R := 4096) (K := 4096) (C := 64) (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (term_eq _ _), (h c).2⟩) (Value.run (F := Ideal) m ρ)

end Cert.Proof.RefValue

end
-- ==== Proof.lean ====
/-
  Hand-written, untrusted. THE CLAIMS assembled: the frames of the kernel (at words and at the ideal instance) are the
  generated ones, the reference's is read off its run, and both runs at the ideal instance end with `elu(adj · x)`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run at the ideal instance leaves the arguments unchanged, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (RefValue.run m ρ)

/-- Kernel and reference compute the same function over the extended reals: from equal arguments each result array ends
    at `elu(adj · x)`. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Array.result m c, Array.run m ρ, ?_⟩
  refine (θ_run Cert.ReferenceIdeal.defs _ _).mono (fun _ h c => ⟨(h c).1.trans ?_, (h c).2⟩) (RefValue.run m' ρ')
  rw [(hagree c).1, (hagree c).2]

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
